-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x200 : Shape := ⟨2, ![1024, 200]⟩
abbrev S1024x200x16 : Shape := ⟨3, ![1024, 200, 16]⟩
abbrev S2x256 : Shape := ⟨2, ![2, 256]⟩
abbrev S4x256 : Shape := ⟨2, ![4, 256]⟩
abbrev S200x256 : Shape := ⟨2, ![200, 256]⟩
abbrev S16x256 : Shape := ⟨2, ![16, 256]⟩
abbrev S256 : Shape := ⟨1, ![256]⟩
abbrev S_ : Shape := ⟨0, ![]⟩

class Facts : Prop where
  bcast_S_S1024x200 : S_.BroadcastsInDim S1024x200 (![] : Fin 0 → Fin S1024x200.rank)
  bcast_S_S1024x200x16 : S_.BroadcastsInDim S1024x200x16 (![] : Fin 0 → Fin S1024x200x16.rank)
  bcast_S_S16x256 : S_.BroadcastsInDim S16x256 (![] : Fin 0 → Fin S16x256.rank)
  bcast_S_S256 : S_.BroadcastsInDim S256 (![] : Fin 0 → Fin S256.rank)

variable [Facts]

def fn {F : FTy → Type} [FloatOps F] (main_arg0 : IVec S1024x200 32) (main_arg1 : IVec S1024x200 32) (main_arg2 : IVec S1024x200 32) (main_arg3 : FVec F S1024x200x16 .f32) (main_arg4 : FVec F S2x256 .f32) (main_arg5 : FVec F S4x256 .f32) (main_arg6 : FVec F S200x256 .f32) (main_arg7 : FVec F S16x256 .f32) (main_arg8 : FVec F S256 .f32) (main_arg9 : FVec F S256 .f32) (main_arg10 : FVec F S256 .f32) : IVec S1024x200 1 × IVec S1024x200 1 × IVec S1024x200 1 × IVec S1024x200 1 × IVec S1024x200x16 1 × IVec S16x256 1 × IVec S256 1 :=
  let main_c : IVec S_ 32 := constantI S_ 32 0#32
  let main_v0 : IVec S1024x200 32 := broadcastInDim S1024x200 ![] bcast_S_S1024x200 main_c
  let main_v1 : IVec S1024x200 1 := cmpi .sge main_arg1 main_v0
  let main_c_0 : IVec S_ 32 := constantI S_ 32 2#32
  let main_v2 : IVec S1024x200 32 := broadcastInDim S1024x200 ![] bcast_S_S1024x200 main_c_0
  let main_v3 : IVec S1024x200 1 := cmpi .slt main_arg1 main_v2
  let main_c_1 : IVec S_ 32 := constantI S_ 32 0#32
  let main_v4 : IVec S1024x200 32 := broadcastInDim S1024x200 ![] bcast_S_S1024x200 main_c_1
  let main_v5 : IVec S1024x200 1 := cmpi .sge main_arg2 main_v4
  let main_c_2 : IVec S_ 32 := constantI S_ 32 4#32
  let main_v6 : IVec S1024x200 32 := broadcastInDim S1024x200 ![] bcast_S_S1024x200 main_c_2
  let main_v7 : IVec S1024x200 1 := cmpi .slt main_arg2 main_v6
  let main_v8 : FVec F S1024x200x16 .f32 := Host.absf main_arg3
  let main_cst : FVec F S_ .f32 := constant S_ .f32 0x7F800000#32
  let main_v9 : FVec F S1024x200x16 .f32 := broadcastInDim S1024x200x16 ![] bcast_S_S1024x200x16 main_cst
  let main_v10 : IVec S1024x200x16 1 := cmpf .olt main_v8 main_v9
  let main_v11 : FVec F S16x256 .f32 := Host.absf main_arg7
  let main_cst_3 : FVec F S_ .f32 := constant S_ .f32 0x7F800000#32
  let main_v12 : FVec F S16x256 .f32 := broadcastInDim S16x256 ![] bcast_S_S16x256 main_cst_3
  let main_v13 : IVec S16x256 1 := cmpf .olt main_v11 main_v12
  let main_v14 : FVec F S256 .f32 := Host.absf main_arg8
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  (main_v1, main_v3, main_v5, main_v7, main_v10, main_v13, main_v16)
-- ==== Kernel.lean ====
abbrev S1024x200 : Shape := ⟨2, ![1024, 200]⟩
abbrev S1024x200x16 : Shape := ⟨3, ![1024, 200, 16]⟩
abbrev S2x256 : Shape := ⟨2, ![2, 256]⟩
abbrev S4x256 : Shape := ⟨2, ![4, 256]⟩
abbrev S200x256 : Shape := ⟨2, ![200, 256]⟩
abbrev S16x256 : Shape := ⟨2, ![16, 256]⟩
abbrev S256 : Shape := ⟨1, ![256]⟩
abbrev S_ : Shape := ⟨0, ![]⟩
abbrev S204800x16 : Shape := ⟨2, ![204800, 16]⟩
abbrev S204800x1 : Shape := ⟨2, ![204800, 1]⟩
abbrev S204800x17 : Shape := ⟨2, ![204800, 17]⟩
abbrev S2x1x256 : Shape := ⟨3, ![2, 1, 256]⟩
abbrev S1x4x256 : Shape := ⟨3, ![1, 4, 256]⟩
abbrev S2x4x256 : Shape := ⟨3, ![2, 4, 256]⟩
abbrev S8x256 : Shape := ⟨2, ![8, 256]⟩
abbrev S16 : Shape := ⟨1, ![16]⟩
abbrev S16x1 : Shape := ⟨2, ![16, 1]⟩
abbrev S16x257 : Shape := ⟨2, ![16, 257]⟩
abbrev S1x1 : Shape := ⟨2, ![1, 1]⟩
abbrev S1x256 : Shape := ⟨2, ![1, 256]⟩
abbrev S204800x256 : Shape := ⟨2, ![204800, 256]⟩
abbrev S6400x17 : Shape := ⟨2, ![6400, 17]⟩
abbrev S6400x256 : Shape := ⟨2, ![6400, 256]⟩
abbrev S6400x16 : Shape := ⟨2, ![6400, 16]⟩
abbrev S6400x1 : Shape := ⟨2, ![6400, 1]⟩
abbrev S256x1 : Shape := ⟨2, ![256, 1]⟩
abbrev S1x16 : Shape := ⟨2, ![1, 16]⟩
abbrev S200x1 : Shape := ⟨2, ![200, 1]⟩
abbrev S1024x200x256 : Shape := ⟨3, ![1024, 200, 256]⟩

abbrev nBuf : Space → Nat
  | .hbm => 48
  | .vmem => 11
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S1024x200x16, .f32⟩
  | .hbm, ⟨4, _⟩ => ⟨S2x256, .f32⟩
  | .hbm, ⟨5, _⟩ => ⟨S4x256, .f32⟩
  | .hbm, ⟨6, _⟩ => ⟨S200x256, .f32⟩
  | .hbm, ⟨7, _⟩ => ⟨S16x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S1024x200, .i32⟩
  | .hbm, ⟨13, _⟩ => ⟨S1024x200, .i1⟩
  | .hbm, ⟨14, _⟩ => ⟨S1024x200, .i32⟩
  | .hbm, ⟨15, _⟩ => ⟨S_, .i32⟩
  | .hbm, ⟨16, _⟩ => ⟨S1024x200, .i32⟩
  | .hbm, ⟨17, _⟩ => ⟨S1024x200, .i32⟩
  | .hbm, ⟨18, _⟩ => ⟨S_, .i32⟩
  | .hbm, ⟨19, _⟩ => ⟨S1024x200, .i32⟩
  | .hbm, ⟨20, _⟩ => ⟨S1024x200, .i32⟩
  | .hbm, ⟨21, _⟩ => ⟨S1024x200, .i32⟩
  | .hbm, ⟨22, _⟩ => ⟨S1024x200, .i32⟩
  | .hbm, ⟨23, _⟩ => ⟨S204800x16, .f32⟩
  | .hbm, ⟨24, _⟩ => ⟨S1024x200, .f32⟩
  | .hbm, ⟨25, _⟩ => ⟨S204800x1, .f32⟩
  | .hbm, ⟨26, _⟩ => ⟨S204800x17, .f32⟩
  | .hbm, ⟨27, _⟩ => ⟨S2x1x256, .f32⟩
  | .hbm, ⟨28, _⟩ => ⟨S1x4x256, .f32⟩
  | .hbm, ⟨29, _⟩ => ⟨S2x4x256, .f32⟩
  | .hbm, ⟨30, _⟩ => ⟨S2x4x256, .f32⟩
  | .hbm, ⟨31, _⟩ => ⟨S2x4x256, .f32⟩
  | .hbm, ⟨32, _⟩ => ⟨S8x256, .f32⟩
  | .hbm, ⟨33, _⟩ => ⟨S_, .f32⟩
  | .hbm, ⟨34, _⟩ => ⟨S8x256, .f32⟩
  | .hbm, ⟨35, _⟩ => ⟨S16x256, .f32⟩
  | .hbm, ⟨36, _⟩ => ⟨S_, .f32⟩
  | .hbm, ⟨37, _⟩ => ⟨S16, .f32⟩
  | .hbm, ⟨38, _⟩ => ⟨S16x1, .f32⟩
  | .hbm, ⟨39, _⟩ => ⟨S16x257, .f32⟩
  | .hbm, ⟨40, _⟩ => ⟨S_, .f32⟩
  | .hbm, ⟨41, _⟩ => ⟨S_, .f32⟩
  | .hbm, ⟨42, _⟩ => ⟨S1x1, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S204800x256, .f32⟩
  | .hbm, ⟨47, _⟩ => ⟨S1024x200x256, .f32⟩
  | .local _ .vmem, ⟨0, _⟩ => ⟨S6400x17, .f32⟩
  | .local _ .vmem, ⟨1, _⟩ => ⟨S6400x17, .f32⟩
  | .local _ .vmem, ⟨2, _⟩ => ⟨S16x256, .f32⟩
  | .local _ .vmem, ⟨3, _⟩ => ⟨S200x256, .f32⟩
  | .local _ .vmem, ⟨4, _⟩ => ⟨S16x257, .f32⟩
  | .local _ .vmem, ⟨5, _⟩ => ⟨S1x256, .f32⟩
  | .local _ .vmem, ⟨6, _⟩ => ⟨S1x1, .f32⟩
  | .local _ .vmem, ⟨7, _⟩ => ⟨S1x256, .f32⟩
  | .local _ .vmem, ⟨8, _⟩ => ⟨S1x256, .f32⟩
  | .local _ .vmem, ⟨9, _⟩ => ⟨S6400x256, .f32⟩
  | .local _ .vmem, ⟨10, _⟩ => ⟨S6400x256, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6400x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1024x200 : Shape := ⟨2, ![1024, 200]⟩
abbrev S1024x200x16 : Shape := ⟨3, ![1024, 200, 16]⟩
abbrev S2x256 : Shape := ⟨2, ![2, 256]⟩
abbrev S4x256 : Shape := ⟨2, ![4, 256]⟩
abbrev S200x256 : Shape := ⟨2, ![200, 256]⟩
abbrev S16x256 : Shape := ⟨2, ![16, 256]⟩
abbrev S256 : Shape := ⟨1, ![256]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x256 : Shape := ⟨3, ![1024, 200, 256]⟩
abbrev S1x200x256 : Shape := ⟨3, ![1, 200, 256]⟩
abbrev S1x1x256 : Shape := ⟨3, ![1, 1, 256]⟩

abbrev nBuf : Space → Nat
  | .hbm => 105
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S1024x200x16, .f32⟩
  | .hbm, ⟨4, _⟩ => ⟨S2x256, .f32⟩
  | .hbm, ⟨5, _⟩ => ⟨S4x256, .f32⟩
  | .hbm, ⟨6, _⟩ => ⟨S200x256, .f32⟩
  | .hbm, ⟨7, _⟩ => ⟨S16x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S_, .i32⟩
  | .hbm, ⟨12, _⟩ => ⟨S1024x200, .i32⟩
  | .hbm, ⟨13, _⟩ => ⟨S1024x200, .i1⟩
  | .hbm, ⟨14, _⟩ => ⟨S_, .i32⟩
  | .hbm, ⟨15, _⟩ => ⟨S1024x200, .i32⟩
  | .hbm, ⟨16, _⟩ => ⟨S1024x200, .i1⟩
  | .hbm, ⟨17, _⟩ => ⟨S_, .i32⟩
  | .hbm, ⟨18, _⟩ => ⟨S1024x200, .i32⟩
  | .hbm, ⟨19, _⟩ => ⟨S1024x200, .i32⟩
  | .hbm, ⟨20, _⟩ => ⟨S1024x200, .i32⟩
  | .hbm, ⟨21, _⟩ => ⟨S1024x200x1, .i32⟩
  | .hbm, ⟨22, _⟩ => ⟨S1, .i32⟩
  | .hbm, ⟨23, _⟩ => ⟨S_, .i32⟩
  | .hbm, ⟨24, _⟩ => ⟨S1024x200x1, .i32⟩
  | .hbm, ⟨25, _⟩ => ⟨S1024x200x1, .i1⟩
  | .hbm, ⟨26, _⟩ => ⟨S1x1x1, .i32⟩
  | .hbm, ⟨27, _⟩ => ⟨S1024x200x1, .i32⟩
  | .hbm, ⟨28, _⟩ => ⟨S1024x200x1, .i1⟩
  | .hbm, ⟨29, _⟩ => ⟨S1024x200x1, .i1⟩
  | .hbm, ⟨30, _⟩ => ⟨S_, .i1⟩
  | .hbm, ⟨31, _⟩ => ⟨S1024x200, .i1⟩
  | .hbm, ⟨32, _⟩ => ⟨S1024x200x256, .f32⟩
  | .hbm, ⟨33, _⟩ => ⟨S1024x200x256, .i1⟩
  | .hbm, ⟨34, _⟩ => ⟨S_, .f32⟩
  | .hbm, ⟨35, _⟩ => ⟨S1024x200x256, .f32⟩
  | .hbm, ⟨36, _⟩ => ⟨S1024x200x256, .f32⟩
  | .hbm, ⟨37, _⟩ => ⟨S_, .i32⟩
  | .hbm, ⟨38, _⟩ => ⟨S1024x200, .i32⟩
  | .hbm, ⟨39, _⟩ => ⟨S1024x200, .i1⟩
  | .hbm, ⟨40, _⟩ => ⟨S_, .i32⟩
  | .hbm, ⟨41, _⟩ => ⟨S1024x200, .i32⟩
  | .hbm, ⟨42, _⟩ => ⟨S1024x200, .i32⟩
  | .hbm, ⟨43, _⟩ => ⟨S1024x200, .i32⟩
  | .hbm, ⟨44, _⟩ => ⟨S1024x200x1, .i32⟩
  | .hbm, ⟨45, _⟩ => ⟨S1, .i32⟩
  | .hbm, ⟨46, _⟩ => ⟨S_, .i32⟩
  | .hbm, ⟨47, _⟩ => ⟨S1024x200x1, .i32⟩
  | .hbm, ⟨48, _⟩ => ⟨S1024x200x1, .i1⟩
  | .hbm, ⟨49, _⟩ => ⟨S1x1x1, .i32⟩
  | .hbm, ⟨50, _⟩ => ⟨S1024x200x1, .i32⟩
  | .hbm, ⟨51, _⟩ => ⟨S1024x200x1, .i1⟩
  | .hbm, ⟨52, _⟩ => ⟨S1024x200x1, .i1⟩
  | .hbm, ⟨53, _⟩ => ⟨S_, .i1⟩
  | .hbm, ⟨54, _⟩ => ⟨S1024x200, .i1⟩
  | .hbm, ⟨55, _⟩ => ⟨S1024x200x256, .f32⟩
  | .hbm, ⟨56, _⟩ => ⟨S1024x200x256, .i1⟩
  | .hbm, ⟨57, _⟩ => ⟨S_, .f32⟩
  | .hbm, ⟨58, _⟩ => ⟨S1024x200x256, .f32⟩
  | .hbm, ⟨59, _⟩ => ⟨S1024x200x256, .f32⟩
  | .hbm, ⟨60, _⟩ => ⟨S1x200x256, .f32⟩
  | .hbm, ⟨61, _⟩ => ⟨S1024x200x256, .f32⟩
  | .hbm, ⟨62, _⟩ => ⟨S1x1x256, .f32⟩
  | .hbm, ⟨63, _⟩ => ⟨S1024x200x256, .f32⟩
  | .hbm, ⟨64, _⟩ => ⟨S1024x200x256, .f32⟩
  | .hbm, ⟨65, _⟩ => ⟨S_, .f32⟩
  | .hbm, ⟨66, _⟩ => ⟨S1024x200, .f32⟩
  | .hbm, ⟨67, _⟩ => ⟨S1024x200x1, .f32⟩
  | .hbm, ⟨68, _⟩ => ⟨S_, .f32⟩
  | .hbm, ⟨69, _⟩ => ⟨S1024x200x1, .f32⟩
  | .hbm, ⟨70, _⟩ => ⟨S1024x200x1, .f32⟩
  | .hbm, ⟨71, _⟩ => ⟨S1024x200x256, .f32⟩
  | .hbm, ⟨72, _⟩ => ⟨S1024x200x256, .f32⟩
  | .hbm, ⟨73, _⟩ => ⟨S1024x200x256, .f32⟩
  | .hbm, ⟨74, _⟩ => ⟨S_, .f32⟩
  | .hbm, ⟨75, _⟩ => ⟨S1024x200, .f32⟩
  | .hbm, ⟨76, _⟩ => ⟨S1024x200x1, .f32⟩
  | .hbm, ⟨77, _⟩ => ⟨S_, .f32⟩
  | .hbm, ⟨78, _⟩ => ⟨S1024x200x1, .f32⟩
  | .hbm, ⟨79, _⟩ => ⟨S1024x200x1, .f32⟩
  | .hbm, ⟨80, _⟩ => ⟨S1024x200x256, .f32⟩
  | .hbm, ⟨81, _⟩ => ⟨S1024x200x256, .f32⟩
  | .hbm, ⟨82, _⟩ => ⟨S_, .f32⟩
  | .hbm, ⟨83, _⟩ => ⟨S1024x200x1, .f32⟩
  | .hbm, ⟨84, _⟩ => ⟨S1024x200x1, .f32⟩
  | .hbm, ⟨85, _⟩ => ⟨S1024x200x1, .f32⟩
  | .hbm, ⟨86, _⟩ => ⟨S1024x200x256, .f32⟩
  | .hbm, ⟨87, _⟩ => ⟨S1024x200x256, .f32⟩
  | .hbm, ⟨88, _⟩ => ⟨S1x1x256, .f32⟩
  | .hbm, ⟨89, _⟩ => ⟨S1024x200x256, .f32⟩
  | .hbm, ⟨90, _⟩ => ⟨S1024x200x256, .f32⟩
  | .hbm, ⟨91, _⟩ => ⟨S1x1x256, .f32⟩
  | .hbm, ⟨92, _⟩ => ⟨S1024x200x256, .f32⟩
  | .hbm, ⟨93, _⟩ => ⟨S1024x200x256, .f32⟩
  | .hbm, ⟨94, _⟩ => ⟨S_, .f32⟩
  | .hbm, ⟨95, _⟩ => ⟨S1024x200x256, .f32⟩
  | .hbm, ⟨96, _⟩ => ⟨S1024x200x256, .f32⟩
  | .hbm, ⟨97, _⟩ => ⟨S1024x200x256, .f32⟩
  | .hbm, ⟨98, _⟩ => ⟨S1024x200x256, .f32⟩
  | .hbm, ⟨99, _⟩ => ⟨S1024x200x256, .f32⟩
  | .hbm, ⟨100, _⟩ => ⟨S1024x200x256, .f32⟩
  | .hbm, ⟨101, _⟩ => ⟨S1024x200x1, .i1⟩
  | .hbm, ⟨102, _⟩ => ⟨S1024x200x1, .f32⟩
  | .hbm, ⟨103, _⟩ => ⟨S1024x200x256, .f32⟩
  | .hbm, ⟨104, _⟩ => ⟨S1024x200x256, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v2 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_1 : Ref sig .tc := ⟨.hbm, 74, rfl⟩
abbrev main_v16 : Ref sig .tc := ⟨.hbm, 75, rfl⟩
abbrev main_v17 : Ref sig .tc := ⟨.hbm, 76, rfl⟩
abbrev main_cst_2 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_3 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_call2_cst : Ref sig .tc := ⟨.hbm, 94, rfl⟩
abbrev main_call2_v0 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩

abbrev nD : Nat := 1
abbrev τ : Topo := Topo.v7x

variable {F : FTy → Type} [FloatOps F]
-- ==== Proof.Consts.lean ====
/- The float constants the two programs spell, as the extended reals their words denote. -/
module

public import Idealize.ShloMosaic.PureOps.Ideal

@[expose] public section

noncomputable section

namespace Cert.Consts

open Idealize.ShloMosaic

/-- The word of `+0.0` denotes `0`. -/
theorem word_zero : Ideal.ofBits .f32 0x00000000#32 = 0 := by
  simp [Ideal.ofBits, Ideal.ieee]

/-- The word of `1.0` denotes `1`. -/
theorem word_one : Ideal.ofBits .f32 0x3F800000#32 = 1 := by
  simp [Ideal.ofBits, Ideal.ieee, -EReal.coe_mul]; norm_num

/-- The word of `8.0` denotes `8`. -/
theorem word_eight : Ideal.ofBits .f32 0x41000000#32 = ((8 : ℝ) : EReal) := by
  simp [Ideal.ofBits, Ideal.ieee, -EReal.coe_mul]; norm_num

/-- The word of `256.0` denotes `256`. -/
theorem word_256 : Ideal.ofBits .f32 0x43800000#32 = ((256 : ℝ) : EReal) := by
  simp [Ideal.ofBits, Ideal.ieee, -EReal.coe_mul]; norm_num

/-- The word of `2⁻⁸`, by which the kernel takes its means, denotes `1/256` exactly. -/
theorem word_inv_256 : Ideal.ofBits .f32 0x3B800000#32 = ((1 / 256 : ℝ) : EReal) := by
  simp [Ideal.ofBits, Ideal.ieee, -EReal.coe_mul]; norm_num

/-- What both programs add to the variance. -/
def eps : ℝ := 10995116 / 2 ^ 40

theorem eps_pos : 0 < eps := by unfold eps; positivity

/-- The word nearest `10⁻⁵` denotes `eps`. -/
theorem word_eps : Ideal.ofBits .f32 0x3727C5AC#32 = (eps : EReal) := by
  simp [Ideal.ofBits, Ideal.ieee, eps, -EReal.coe_mul]; norm_num

/-- The word of `+∞` denotes the top extended real. -/
theorem word_inf : Ideal.ofBits .f32 0x7F800000#32 = ⊤ := by
  simp [Ideal.ofBits, Ideal.ieee]

end Cert.Consts

end
-- ==== Proof.Norm.lean ====
/- Layer normalisation over one row of 256 numbers: the one-pass form (mean and mean square, then scale and shift)
   and the two-pass form (centre, then divide by the root of the mean squared deviation) agree on real rows. -/
module

public import proofs.«01_k».proof.Proof.Consts

@[expose] public section

noncomputable section

namespace Cert.Norm

open Idealize.ShloMosaic Cert.Consts

/-- A finite sum of reals, taken in the extended reals, is the sum taken in the reals. -/
theorem coe_sum {n : Nat} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- An extended real whose absolute value is below the top one is a real. -/
theorem exists_real {x : EReal} (h : max x (-x) < ⊤) : ∃ r : ℝ, x = (r : EReal) := by
  induction x using EReal.rec with
  | bot => simp at h
  | top => simp at h
  | coe r => exact ⟨r, rfl⟩

/-- Dividing by a nonzero real is multiplying by its inverse. -/
theorem div_real (s r : ℝ) (h : r ≠ 0) : Ideal.div (s : EReal) (r : EReal) = ((s / r : ℝ) : EReal) := by
  unfold Ideal.div
  rw [if_neg (by exact_mod_cast h), div_eq_mul_inv, EReal.coe_mul, EReal.coe_inv]

/-- The reciprocal root of a positive real. -/
theorem rsqrt_real {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

/-- The root of a positive real. -/
theorem sqrt_real {r : ℝ} (h : 0 < r) : Ideal.sqrt (r : EReal) = ((Real.sqrt r : ℝ) : EReal) := by
  show (if r < 0 then ⊥ else ((Real.sqrt r : ℝ) : EReal)) = _
  rw [if_neg (not_lt.mpr h.le)]

/-- The mean of the squares less the square of the mean is the mean squared deviation. -/
theorem variance (x : Fin 256 → ℝ) :
    (∑ k, x k * x k) * (1 / 256) - (∑ k, x k) * (1 / 256) * ((∑ k, x k) * (1 / 256))
      = (∑ k, (x k - (∑ k, x k) / 256) * (x k - (∑ k, x k) / 256)) / 256 := by
  have e : ∀ k, (x k - (∑ k, x k) / 256) * (x k - (∑ k, x k) / 256)
      = x k * x k - 2 * ((∑ k, x k) / 256) * x k + ((∑ k, x k) / 256) * ((∑ k, x k) / 256) := fun k => by ring
  rw [Finset.sum_congr rfl fun k _ => e k, Finset.sum_add_distrib, Finset.sum_sub_distrib, ← Finset.mul_sum,
    Finset.sum_const, Finset.card_univ, Fintype.card_fin, nsmul_eq_mul]
  push_cast
  ring

/-- The mean squared deviation with `eps` added is positive. -/
theorem variance_pos (x : Fin 256 → ℝ) (μ : ℝ) : 0 < (∑ k, (x k - μ) * (x k - μ)) / 256 + eps :=
  add_pos_of_nonneg_of_pos (div_nonneg (Finset.sum_nonneg fun k _ => mul_self_nonneg _) (by norm_num)) eps_pos

/-- The one-pass value of entry `h` from the row's sum `s` and its sum of squares `q`. -/
def onePass (h s q : EReal) : EReal :=
  let μ := s * ((1 / 256 : ℝ) : EReal)
  let p := Ideal.rsqrt (q * ((1 / 256 : ℝ) : EReal) - μ * μ + (eps : EReal))
  h * p + (0 - μ * p)

/-- The two-pass value of entry `d` of a row. -/
def twoPass (h : Fin 256 → EReal) (d : Fin 256) : EReal :=
  let μ := Ideal.div (∑ k, h k) ((256 : ℝ) : EReal)
  Ideal.div (h d - μ) (Ideal.sqrt (Ideal.div (∑ k, (h k - μ) * (h k - μ)) ((256 : ℝ) : EReal) + (eps : EReal)))

/-- On a row of reals the two forms agree. -/
theorem onePass_eq_twoPass (x : Fin 256 → ℝ) (d : Fin 256) :
    onePass (x d : EReal) ((∑ k, x k : ℝ) : EReal) ((∑ k, x k * x k : ℝ) : EReal)
      = twoPass (fun k => (x k : EReal)) d := by
  unfold onePass twoPass
  dsimp only
  have hv := variance_pos x ((∑ k, x k) / 256)
  have hs : 0 < Real.sqrt ((∑ k, (x k - (∑ k, x k) / 256) * (x k - (∑ k, x k) / 256)) / 256 + eps) := Real.sqrt_pos.mpr hv
  rw [coe_sum, div_real _ _ (by norm_num)]
  simp only [← EReal.coe_sub, ← EReal.coe_mul]
  rw [coe_sum, div_real _ _ (by norm_num), variance, ← EReal.coe_add, rsqrt_real hv, sqrt_real hv, div_real _ _ hs.ne',
    ← EReal.coe_mul, ← EReal.coe_zero, ← EReal.coe_mul, ← EReal.coe_sub, ← EReal.coe_add]
  congr 1
  rw [div_eq_mul_inv]
  ring

end Cert.Norm

end
-- ==== Proof.Block.lean ====
/- What one grid point of the kernel computes: the 32 tiles of 200 rows its body stores, read as one function of the
   6400-row block, and the two values that they are cut from, read at an index. -/
module

public import proofs.«01_k».proof.Proof.Norm
public import proofs.«01_k».proof.Proof.Gen.KernelIdeal.Frame
public import Idealize.ShloMosaic.Lib.Pipeline.Value
public import Idealize.ShloMosaic.Lib.Pointwise

@[expose] public section

noncomputable section

namespace Cert.Block

open Idealize.ShloMosaic Cert.KernelIdeal Cert.KernelIdeal.Gen Cert.Norm Cert.Consts

/-- A block whose row `r` is row `r` of `base` plus row `r mod 200` of the table `pos` scaled by entry `r` of `flag`. -/
def withPos (flag : FVec Ideal S6400x1 .f32) (base : FVec Ideal S6400x256 .f32) (pos : Vec Ideal S200x256 .f32) :
    Vec Ideal S6400x256 .f32 :=
  fun y => base y + pos (ix2 ⟨(y 0).val % 200, Nat.mod_lt _ (by norm_num)⟩ (y 1)) * flag (ix2 (y 0) 0)

/-- The tile of 200 rows that starts at a multiple of 200 is that piece of `withPos`. -/
theorem tile_apply (o : Nat) (ho : o % 200 = 0) (flag : FVec Ideal S6400x1 .f32) (base : FVec Ideal S6400x256 .f32)
    (pos : Vec Ideal S200x256 .f32) (h₁ : S6400x256.Slices ![o, 0] S200x256) (h₂ : S6400x1.Slices ![o, 0] S200x1)
    (h₃ : S200x1.Broadcasts S200x256) (inb : ∀ a, (![o, 0] : Fin 2 → Nat) a + S200x256.size a ≤ S6400x256.size a)
    (x : S200x256.Idx) :
    addf (F := Ideal) (φ := .f32) (extractStridedSlice S200x256 ![o, 0] base h₁)
        (mulf (F := Ideal) (φ := .f32) pos (broadcastTo S200x256 (extractStridedSlice S200x1 ![o, 0] flag h₂) h₃)) x
      = withPos flag base pos ((Rect.unit (s := S6400x256) ![o, 0] S200x256.size inb).emb x) := by
  obtain ⟨a, b, rfl⟩ : ∃ a b, x = ix2 a b := ⟨x 0, x 1, eq_ix2 x⟩
  pointwise
  have e : (Rect.unit (s := S6400x256) ![o, 0] ![200, 256] inb).emb (ix2 a b)
      = ix2 ⟨o + a.val, by have := inb 0; have := a.isLt; simp at *; omega⟩ b := by
    funext i
    apply Fin.ext
    rw [Rect.emb_apply]
    fin_cases i <;> simp [Rect.unit]
  rw [e]
  show _ = base _ + pos (ix2 ⟨(o + a.val) % 200, _⟩ b) * flag (ix2 _ 0)
  have e' : (⟨(o + a.val) % 200, Nat.mod_lt _ (by norm_num)⟩ : Fin 200) = a := by
    apply Fin.ext; have := a.isLt; show (o + a.val) % 200 = a.val; omega
  rw [e']
  rfl

/-- The block the body leaves is `withPos` of its two intermediate values. -/
theorem out_eq (x0 : Vec Ideal S6400x17 .f32) (x1 : Vec Ideal S16x256 .f32) (x2 : Vec Ideal S200x256 .f32)
    (x3 : Vec Ideal S16x257 .f32) (x4 : Vec Ideal S1x256 .f32) (x5 : Vec Ideal S1x1 .f32) (x6 : Vec Ideal S1x256 .f32)
    (x7 : Vec Ideal S1x256 .f32) :
    out0_8 x0 x1 x2 x3 x4 x5 x6 x7
      = withPos (k0_pay42 x0 x1 x2 x3 x4 x5 x6 x7) (k0_pay43 x0 x1 x2 x3 x4 x5 x6 x7) x2 := by
  have e : View.ld x2 r0_5 = x2 := View.ld_unit_zero (funext fun a => by fin_cases a <;> rfl) _ _
  funext y
  unfold out0_8
  refine View.canon_apply_of_pieces _ _ ?_ y (cover0_8 _ _ _ _ _ _ _ _ _ _ _ _ _ _ _ _ _ _ _ _ _ _ _ _ _ _ _ _ _ _ _ _ y)
  rw [e]
  simp only [List.forall_mem_cons, List.not_mem_nil, false_imp_iff, implies_true, and_true]
  repeat' apply And.intro
  all_goals first | exact fun x => tile_apply _ rfl _ _ _ _ _ _ _ x | exact fun x => by unfold k0_pay26 k0_pay24 k0_pay25; exact tile_apply _ rfl _ _ _ _ _ _ _ x

/-- A comparison's bit, widened and read as a number, is one where the comparison holds and zero elsewhere. -/
theorem sitofp_bit (p : Prop) [Decidable p] :
    FloatOps.sitofp (F := Ideal) .f32 (BitVec.setWidth 32 (BitVec.ofBool (decide p))) = if p then 1 else 0 := by
  show (((BitVec.setWidth 32 (BitVec.ofBool (decide p))).toInt : ℝ) : EReal) = _
  by_cases h : p
  · simp [h]
  · simp [h]

/-- The word of a small natural, read as a number, is that natural. -/
theorem sitofp_nat (k : Fin 16) : FloatOps.sitofp (F := Ideal) .f32 (BitVec.ofNat 32 k.val) = ((k.val : ℝ) : EReal) := by
  show (((BitVec.ofNat 32 k.val).toInt : ℝ) : EReal) = _
  have h : ∀ k : Fin 16, (BitVec.ofNat 32 k.val).toInt = (k.val : Int) := by decide
  rw [h, Int.cast_natCast]

/-- One where a row's code is at least eight, zero elsewhere. -/
def flagOf (code : EReal) : EReal := if ((8 : ℝ) : EReal) ≤ code then 1 else 0

/-- The entry of a table of sixteen that a code names, as a sum over the table, zero where it names none. -/
def pick (code : EReal) (T : Fin 16 → EReal) : EReal := ∑ k, (if code = ((k.val : ℝ) : EReal) then 1 else 0) * T k

/-- Entry `d` of a row of the result: `h` the row before normalisation, `s` what is taken for its sum, `code` the row's
    code, `T` the table's column, `g` and `b` the scale and the shift, `pos` the position's entry. -/
def rowOut (h : Fin 256 → EReal) (s code : EReal) (T : Fin 16 → EReal) (g b pos : EReal) (d : Fin 256) : EReal :=
  max (onePass (h d) s (∑ k, h k * h k) * g + b) 0 * flagOf code + pick code T + pos * flagOf code

/-- The validity flag of row `r` of the block. -/
theorem flag_apply (x0 : Vec Ideal S6400x17 .f32) (x1 : Vec Ideal S16x256 .f32) (x2 : Vec Ideal S200x256 .f32)
    (x3 : Vec Ideal S16x257 .f32) (x4 : Vec Ideal S1x256 .f32) (x5 : Vec Ideal S1x1 .f32) (x6 : Vec Ideal S1x256 .f32)
    (x7 : Vec Ideal S1x256 .f32) (r : Fin 6400) :
    k0_pay42 x0 x1 x2 x3 x4 x5 x6 x7 (ix2 r 0) = flagOf (x0 (ix2 r 16)) := by
  unfold_payloads
  pointwise
  rw [sitofp_bit, word_eight]
  rfl

/-- Entry `(r, d)` of the block's normalised and scaled rows. -/
theorem scaled_apply (x0 : Vec Ideal S6400x17 .f32) (x1 : Vec Ideal S16x256 .f32) (x2 : Vec Ideal S200x256 .f32)
    (x3 : Vec Ideal S16x257 .f32) (x4 : Vec Ideal S1x256 .f32) (x5 : Vec Ideal S1x1 .f32) (x6 : Vec Ideal S1x256 .f32)
    (x7 : Vec Ideal S1x256 .f32) (r : Fin 6400) (d : Fin 256) (h : Fin 256 → EReal) (s : EReal)
    (hh : ∀ d, h d = ∑ k : Fin 16, x0 (ix2 r (k.castLE (by norm_num))) * x3 (ix2 k (d.castLE (by norm_num))) + x4 (ix2 0 d))
    (hs : s = ∑ k : Fin 16, x0 (ix2 r (k.castLE (by norm_num))) * x3 (ix2 k 256) + x5 (ix2 0 0)) :
    k0_pay41 x0 x1 x2 x3 x4 x5 x6 x7 (ix2 r d) = onePass (h d) s (∑ k, h k * h k) * x6 (ix2 0 d) := by
  unfold_payloads
  pointwise
  rw [word_inv_256, word_eps, hs]
  simp only [hh]
  rfl

/-- Entry `(r, d)` of the block before the position table is added. -/
theorem base_apply (x0 : Vec Ideal S6400x17 .f32) (x1 : Vec Ideal S16x256 .f32) (x2 : Vec Ideal S200x256 .f32)
    (x3 : Vec Ideal S16x257 .f32) (x4 : Vec Ideal S1x256 .f32) (x5 : Vec Ideal S1x1 .f32) (x6 : Vec Ideal S1x256 .f32)
    (x7 : Vec Ideal S1x256 .f32) (r : Fin 6400) (d : Fin 256) :
    k0_pay43 x0 x1 x2 x3 x4 x5 x6 x7 (ix2 r d)
      = max (k0_pay41 x0 x1 x2 x3 x4 x5 x6 x7 (ix2 r d) + x7 (ix2 0 d)) 0 * flagOf (x0 (ix2 r 16))
        + pick (x0 (ix2 r 16)) (fun k => x1 (ix2 k d)) := by
  unfold k0_pay43
  generalize k0_pay41 x0 x1 x2 x3 x4 x5 x6 x7 = u
  unfold_payloads
  pointwise
  simp only [sitofp_bit, sitofp_nat, word_eight]
  rfl

/-- Entry `(r, d)` of the block that the body leaves. -/
theorem out_apply (x0 : Vec Ideal S6400x17 .f32) (x1 : Vec Ideal S16x256 .f32) (x2 : Vec Ideal S200x256 .f32)
    (x3 : Vec Ideal S16x257 .f32) (x4 : Vec Ideal S1x256 .f32) (x5 : Vec Ideal S1x1 .f32) (x6 : Vec Ideal S1x256 .f32)
    (x7 : Vec Ideal S1x256 .f32) (r : Fin 6400) (d : Fin 256) (h : Fin 256 → EReal) (s : EReal)
    (hh : ∀ d, h d = ∑ k : Fin 16, x0 (ix2 r (k.castLE (by norm_num))) * x3 (ix2 k (d.castLE (by norm_num))) + x4 (ix2 0 d))
    (hs : s = ∑ k : Fin 16, x0 (ix2 r (k.castLE (by norm_num))) * x3 (ix2 k 256) + x5 (ix2 0 0)) :
    out0_8 x0 x1 x2 x3 x4 x5 x6 x7 (ix2 r d)
      = rowOut h s (x0 (ix2 r 16)) (fun k => x1 (ix2 k d)) (x6 (ix2 0 d)) (x7 (ix2 0 d))
          (x2 (ix2 ⟨r.val % 200, Nat.mod_lt _ (by norm_num)⟩ d)) d := by
  rw [out_eq]
  show k0_pay43 x0 x1 x2 x3 x4 x5 x6 x7 (ix2 r d)
    + x2 (ix2 ⟨r.val % 200, Nat.mod_lt _ (by norm_num)⟩ d) * k0_pay42 x0 x1 x2 x3 x4 x5 x6 x7 (ix2 r 0) = _
  rw [base_apply, flag_apply, scaled_apply x0 x1 x2 x3 x4 x5 x6 x7 r d h s hh hs]
  rfl

end Cert.Block

end
-- ==== Proof.Host.lean ====
/- What the operations before the launch put into the arrays that the kernel reads, entry by entry. -/
module

public import proofs.«01_k».proof.Proof.Block
public import Idealize.ShloMosaic.Lib.StableHlo.ReadAt

@[expose] public section

noncomputable section

namespace Cert.Host

open Idealize.ShloMosaic Idealize.ShloMosaic.TcCoe Cert.KernelIdeal Cert.KernelIdeal.Gen

variable (m : (ℓ : Loc nD τ sig) → Buf (Elt Ideal) ℓ) (c : Dev nD)

/-- The table that a code indexes: zero below eight, from eight on the sum of an actor's and a street's entry. -/
def table (aW : Fin 2 → EReal) (sW : Fin 4 → EReal) (k : Fin 16) : EReal :=
  if k.val < 8 then 0 else aW ⟨(k.val - 8) / 4, by omega⟩ + sW ⟨(k.val - 8) % 4, by omega⟩

/-- The word of a row's code: eight for a row that is present, four per actor, one per street. -/
def codeWord (t a s : BitVec 32) : BitVec 32 :=
  IntOp.addi (IntOp.addi (IntOp.muli (BitVec.setWidth 32 (IntOp.cmpi .sge t 0#32)) 8#32) (IntOp.muli a 4#32)) s

/-- The batch entry that row `r` belongs to. -/
def batch (r : Fin 204800) : Fin 1024 := ⟨r.val / 200, by omega⟩

/-- The position of row `r` in its batch entry. -/
def place (r : Fin 204800) : Fin 200 := ⟨r.val % 200, by omega⟩

/-- The bias row the kernel reads. -/
theorem bias_at (d : Fin 256) : V m c main_v26 (ix2 0 d) = m ((c : Thread nD τ).loc main_arg8) (ix1 d) := by
  unfold V V0
  after_reads_at

/-- The scale row the kernel reads. -/
theorem scale_at (d : Fin 256) : V m c main_v27 (ix2 0 d) = m ((c : Thread nD τ).loc main_arg9) (ix1 d) := by
  unfold V V0
  after_reads_at

/-- The shift row the kernel reads. -/
theorem shift_at (d : Fin 256) : V m c main_v28 (ix2 0 d) = m ((c : Thread nD τ).loc main_arg10) (ix1 d) := by
  unfold V V0
  after_reads_at

/-- The sum of the bias. -/
theorem bias_sum_at : V m c main_v25 (ix2 0 0) = Finset.sum (M := EReal) Finset.univ (fun d : Fin 256 => m ((c : Thread nD τ).loc main_arg8) (ix1 d)) := by
  unfold V V0
  after_reads_at

/-- The weights, in the first 256 columns of the widened weights. -/
theorem weights_at (k : Fin 16) (d : Fin 256) :
    V m c main_v23 (ix2 k (d.castLE (by norm_num))) = m ((c : Thread nD τ).loc main_arg7) (ix2 k d) := by
  unfold V V0
  after_reads_at
  exact dif_pos d.isLt

/-- The sum of a row of the weights, in the last column of the widened weights. -/
theorem weights_sum_at (k : Fin 16) :
    V m c main_v23 (ix2 k 256) = Finset.sum (M := EReal) Finset.univ (fun d : Fin 256 => m ((c : Thread nD τ).loc main_arg7) (ix2 k d)) := by
  unfold V V0
  after_reads_at

/-- The table of sums of embeddings. -/
theorem table_at (k : Fin 16) (d : Fin 256) :
    V m c main_v20 (ix2 k d) = table (fun i => m ((c : Thread nD τ).loc main_arg4) (ix2 i d))
      (fun i => m ((c : Thread nD τ).loc main_arg5) (ix2 i d)) k := by
  unfold V V0
  after_reads_at
  rfl

/-- The legal-action mask of row `r`, in the first sixteen columns of the rows. -/
theorem masks_at (r : Fin 204800) (k : Fin 16) :
    V m c main_v12 (ix2 r (k.castLE (by norm_num))) = m ((c : Thread nD τ).loc main_arg3) (ix3 (batch r) (place r) k) := by
  unfold V V0
  after_reads_at
  exact dif_pos k.isLt

/-- The code of row `r`, in the last column of the rows. -/
theorem code_at (r : Fin 204800) :
    V m c main_v12 (ix2 r 16) = FloatOps.sitofp (F := Ideal) .f32
      (codeWord (m ((c : Thread nD τ).loc main_arg0) (ix2 (batch r) (place r)))
        (m ((c : Thread nD τ).loc main_arg1) (ix2 (batch r) (place r)))
        (m ((c : Thread nD τ).loc main_arg2) (ix2 (batch r) (place r)))) := by
  unfold V V0
  after_reads_at
  rfl

end Cert.Host

end
-- ==== Proof.Array.lean ====
/- What the kernel's result holds at the end: each grid point's block, read over the arrays that the launch finds, is the
   same function of the arguments, so the whole result is. -/
module

public import proofs.«01_k».proof.Proof.Host

@[expose] public section

noncomputable section

namespace Cert.Array

open Idealize.ShloMosaic Idealize.ShloMosaic.TcCoe Idealize.SL.Sem Cert.KernelIdeal Cert.KernelIdeal.Gen Cert.Host Cert.Block
open Idealize.ShloMosaic.Pipeline (Dat)

/-- Entry `d` of a row of the hidden layer: the row of masks times the weights, plus the bias. -/
def hidden (lm : Fin 16 → EReal) (W : Fin 16 → Fin 256 → EReal) (b : Fin 256 → EReal) (d : Fin 256) : EReal :=
  ∑ k, lm k * W k d + b d

/-- What the kernel takes for the sum of that row: the masks times the weights' row sums, plus the bias's sum. -/
def hiddenSum (lm : Fin 16 → EReal) (W : Fin 16 → Fin 256 → EReal) (b : Fin 256 → EReal) : EReal :=
  ∑ k, lm k * ∑ d, W k d + ∑ d, b d

/-- One entry of the kernel's result from the data of its row: the three index words, the legal-action mask, the
    weights and the bias, the columns of the two embedding tables, the scale, the shift and the position's entry. -/
def entry (t a s : BitVec 32) (lm : Fin 16 → EReal) (W : Fin 16 → Fin 256 → EReal) (b : Fin 256 → EReal)
    (aW : Fin 2 → EReal) (sW : Fin 4 → EReal) (g β pos : EReal) (d : Fin 256) : EReal :=
  rowOut (hidden lm W b) (hiddenSum lm W b)
    (FloatOps.sitofp (F := Ideal) .f32 (codeWord t a s)) (table aW sW) g β pos d

/-- A block whose inputs hold that data holds those entries. -/
theorem out_entry (x0 : Vec Ideal S6400x17 .f32) (x1 : Vec Ideal S16x256 .f32) (x2 : Vec Ideal S200x256 .f32)
    (x3 : Vec Ideal S16x257 .f32) (x4 : Vec Ideal S1x256 .f32) (x5 : Vec Ideal S1x1 .f32) (x6 : Vec Ideal S1x256 .f32)
    (x7 : Vec Ideal S1x256 .f32) (r : Fin 6400) (d : Fin 256) {t a s : BitVec 32} {lm : Fin 16 → EReal}
    {W : Fin 16 → Fin 256 → EReal} {b : Fin 256 → EReal} {aW : Fin 2 → EReal} {sW : Fin 4 → EReal} {g β pos : EReal}
    (h0 : ∀ k : Fin 16, x0 (ix2 r (k.castLE (by norm_num))) = lm k)
    (hc : x0 (ix2 r 16) = FloatOps.sitofp (F := Ideal) .f32 (codeWord t a s))
    (h1 : ∀ k, x1 (ix2 k d) = table aW sW k)
    (h2 : x2 (ix2 ⟨r.val % 200, Nat.mod_lt _ (by norm_num)⟩ d) = pos)
    (h3 : ∀ (k : Fin 16) (d : Fin 256), x3 (ix2 k (d.castLE (by norm_num))) = W k d)
    (h3' : ∀ k : Fin 16, x3 (ix2 k 256) = ∑ d, W k d)
    (h4 : ∀ d, x4 (ix2 0 d) = b d) (h5 : x5 (ix2 0 0) = ∑ d, b d) (h6 : x6 (ix2 0 d) = g) (h7 : x7 (ix2 0 d) = β) :
    out0_8 x0 x1 x2 x3 x4 x5 x6 x7 (ix2 r d) = entry t a s lm W b aW sW g β pos d := by
  rw [out_apply x0 x1 x2 x3 x4 x5 x6 x7 r d (hidden lm W b) (hiddenSum lm W b)
    (fun d => by simp only [h0, h3, h4]; rfl) (by simp only [h0, h3', h5]; rfl), hc, h2, h6, h7, funext h1]
  rfl

variable (m : (ℓ : Loc nD τ sig) → Buf (Elt Ideal) ℓ) (c : Dev nD)

/-- Entry `d` of row `r` of the kernel's result, from the arguments. -/
def rowEntry (r : Fin 204800) (d : Fin 256) : EReal :=
  entry (m ((c : Thread nD τ).loc main_arg0) (ix2 (batch r) (place r)))
    (m ((c : Thread nD τ).loc main_arg1) (ix2 (batch r) (place r)))
    (m ((c : Thread nD τ).loc main_arg2) (ix2 (batch r) (place r)))
    (fun k => m ((c : Thread nD τ).loc main_arg3) (ix3 (batch r) (place r) k))
    (fun k d => m ((c : Thread nD τ).loc main_arg7) (ix2 k d))
    (fun d => m ((c : Thread nD τ).loc main_arg8) (ix1 d))
    (fun i => m ((c : Thread nD τ).loc main_arg4) (ix2 i d))
    (fun i => m ((c : Thread nD τ).loc main_arg5) (ix2 i d))
    (m ((c : Thread nD τ).loc main_arg9) (ix1 d)) (m ((c : Thread nD τ).loc main_arg10) (ix1 d))
    (m ((c : Thread nD τ).loc main_arg6) (ix2 (place r) d)) d

/-- The kernel's result as a matrix of 204800 rows. -/
def rows : Vec Ideal S204800x256 .f32 := fun i => rowEntry m c (i 0) (i 1)

/-- Row `r` of block `t` is row `6400 t + r` of the whole. -/
def rowOf (t : Fin grid0.N) (r : Fin 6400) : Fin 204800 :=
  ⟨t.val * 6400 + r.val, by have := t.isLt; have : grid0.N = 32 := N_0; omega⟩

theorem index_rows : ∀ t : Fin grid0.N, win0_0.index t 0 = t.val ∧ win0_0.index t 1 = 0 := by decide +kernel

theorem index_result : ∀ t : Fin grid0.N, win0_8.index t 0 = t.val ∧ win0_8.index t 1 = 0 := by decide +kernel

/-- Block `t` of the rows, entry by entry. -/
theorem iblk_rows (t : Fin grid0.N) (r : Fin 6400) (k : Fin 17) :
    (iblk m c 0 t : Vec Ideal S6400x17 .f32) (ix2 r k) = V m c main_v12 (ix2 (rowOf t r) k) := by
  unfold iblk
  rw [View.read_apply]
  show V m c main_v12 _ = V m c main_v12 _
  congr 1
  funext a
  apply Fin.ext
  match a with
  | ⟨0, _⟩ => show win0_0.index t 0 * 6400 + 1 * r.val = t.val * 6400 + r.val; rw [(index_rows t).1]; omega
  | ⟨1, _⟩ => show win0_0.index t 1 * 17 + 1 * k.val = k.val; rw [(index_rows t).2]; omega

/-- Every block of the table is the whole table. -/
theorem iblk_table (t : Fin grid0.N) : (iblk m c 1 t : Vec Ideal S16x256 .f32) = V m c main_v20 :=
  Memref.read_access_unit_zero (Elt Ideal) main_v20 (funext fun a => by fin_cases a <;> rfl) _ _

/-- Every block of the positions is all of them. -/
theorem iblk_pos (t : Fin grid0.N) : (iblk m c 2 t : Vec Ideal S200x256 .f32) = V m c main_arg6 :=
  Memref.read_access_unit_zero (Elt Ideal) main_arg6 (funext fun a => by fin_cases a <;> rfl) _ _

/-- Every block of the widened weights is all of them. -/
theorem iblk_weights (t : Fin grid0.N) : (iblk m c 3 t : Vec Ideal S16x257 .f32) = V m c main_v23 :=
  Memref.read_access_unit_zero (Elt Ideal) main_v23 (funext fun a => by fin_cases a <;> rfl) _ _

/-- Every block of the bias is the whole bias. -/
theorem iblk_bias (t : Fin grid0.N) : (iblk m c 4 t : Vec Ideal S1x256 .f32) = V m c main_v26 :=
  Memref.read_access_unit_zero (Elt Ideal) main_v26 (funext fun a => by fin_cases a <;> rfl) _ _

/-- Every block of the bias's sum is that sum. -/
theorem iblk_bias_sum (t : Fin grid0.N) : (iblk m c 5 t : Vec Ideal S1x1 .f32) = V m c main_v25 :=
  Memref.read_access_unit_zero (Elt Ideal) main_v25 (funext fun a => by fin_cases a <;> rfl) _ _

/-- Every block of the scale is the whole scale. -/
theorem iblk_scale (t : Fin grid0.N) : (iblk m c 6 t : Vec Ideal S1x256 .f32) = V m c main_v27 :=
  Memref.read_access_unit_zero (Elt Ideal) main_v27 (funext fun a => by fin_cases a <;> rfl) _ _

/-- Every block of the shift is the whole shift. -/
theorem iblk_shift (t : Fin grid0.N) : (iblk m c 7 t : Vec Ideal S1x256 .f32) = V m c main_v28 :=
  Memref.read_access_unit_zero (Elt Ideal) main_v28 (funext fun a => by fin_cases a <;> rfl) _ _

/-- What the body leaves at point `t`, entry by entry, is the result's block. -/
theorem after_apply (t : Fin grid0.N) (r : Fin 6400) (d : Fin 256) :
    ((dats m 0 c).after 8 t : Vec Ideal S6400x256 .f32) (ix2 r d) = rowEntry m c (rowOf t r) d := by
  have e : (⟨r.val % 200, Nat.mod_lt _ (by norm_num)⟩ : Fin 200) = place (rowOf t r) := by
    apply Fin.ext; show r.val % 200 = (t.val * 6400 + r.val) % 200; omega
  rw [after0_8]
  exact out_entry _ _ _ _ _ _ _ _ r d
    (fun k => (iblk_rows m c t r _).trans (masks_at m c (rowOf t r) k))
    ((iblk_rows m c t r _).trans (code_at m c (rowOf t r)))
    (fun k => (congrFun (iblk_table m c t) _).trans (table_at m c k d))
    ((congrFun (iblk_pos m c t) _).trans (by rw [V_main_arg6, e]))
    (fun k d => (congrFun (iblk_weights m c t) _).trans (weights_at m c k d))
    (fun k => (congrFun (iblk_weights m c t) _).trans (weights_sum_at m c k))
    (fun d => (congrFun (iblk_bias m c t) _).trans (bias_at m c d))
    ((congrFun (iblk_bias_sum m c t) _).trans (bias_sum_at m c))
    ((congrFun (iblk_scale m c t) _).trans (scale_at m c d))
    ((congrFun (iblk_shift m c t) _).trans (shift_at m c d))

end Cert.Array

end
-- ==== Proof.Result.lean ====
/- The array that the kernel's program returns, entry by entry: its grid points' blocks tile a matrix of 204800 rows,
   which the program reshapes. -/
module

public import proofs.«01_k».proof.Proof.Array

@[expose] public section

noncomputable section

namespace Cert.Array

open Idealize.ShloMosaic Idealize.ShloMosaic.TcCoe Idealize.SL.Sem Cert.KernelIdeal Cert.KernelIdeal.Gen Cert.Host Cert.Block
open Idealize.ShloMosaic.Pipeline (Dat)

variable (m : (ℓ : Loc nD τ sig) → Buf (Elt Ideal) ℓ) (c : Dev nD)

/-- Block `t` of the result's matrix, entry by entry. -/
theorem rows_block (t : Fin grid0.N) (r : Fin 6400) (d : Fin 256) :
    (((cfg0.win 8).blk t).view.read (Elt Ideal) (rows m c) : Vec Ideal S6400x256 .f32) (ix2 r d)
      = rowEntry m c (rowOf t r) d := by
  rw [View.read_apply]
  show rowEntry m c _ _ = rowEntry m c _ _
  refine congrArg₂ (rowEntry m c) (Fin.ext ?_) (Fin.ext ?_)
  · show win0_8.index t 0 * 6400 + 1 * r.val = t.val * 6400 + r.val
    rw [(index_result t).1]; omega
  · show win0_8.index t 1 * 256 + 1 * d.val = d.val
    rw [(index_result t).2]; omega

/-- What point `t` writes back is block `t` of the result. -/
theorem flushed_eq (t : Fin cfg0.N) (_ : (cfg0.win 8).flush t = true) :
    (dats m 0 c).flushed 8 t = ((cfg0.win 8).blk t).view.read (Elt Ideal) (rows m c) := by
  have h : ∀ j : S6400x256.Idx, ((dats m 0 c).after 8 t : Vec Ideal S6400x256 .f32) j
      = (((cfg0.win 8).blk t).view.read (Elt Ideal) (rows m c) : Vec Ideal S6400x256 .f32) j := fun j => by
    rw [eq_ix2 j]
    exact (after_apply m c t _ _).trans (rows_block m c t _ _).symm
  exact funext h

/-- Every row lies in some block. -/
theorem covered (i : S204800x256.Idx) :
    ∃ t : Fin grid0.N, i ∈ ((View.whole main_v29).slice (win0_8.rect t)).set := by
  have h0 : (i 0 : Nat) < 204800 := (i 0).isLt
  have h1 : (i 1 : Nat) < 256 := (i 1).isLt
  have hN : grid0.N = 32 := N_0
  refine ⟨⟨(i 0 : Nat) / 6400, by omega⟩, ?_⟩
  rw [View.set_slice_whole, Rect.mem_set_unit]
  intro a
  match a with
  | ⟨0, _⟩ =>
    show win0_8.index _ 0 * 6400 ≤ (i 0 : Nat) ∧ (i 0 : Nat) < win0_8.index _ 0 * 6400 + 6400
    rw [(index_result _).1]
    show (i 0 : Nat) / 6400 * 6400 ≤ (i 0 : Nat) ∧ (i 0 : Nat) < (i 0 : Nat) / 6400 * 6400 + 6400
    omega
  | ⟨1, _⟩ =>
    show win0_8.index _ 1 * 256 ≤ (i 1 : Nat) ∧ (i 1 : Nat) < win0_8.index _ 1 * 256 + 256
    rw [(index_result _).2]
    omega

/-- After the last point the kernel's matrix holds every row of the result. -/
theorem final : (dats m 0 c).arrAt 8 cfg0.N = rows m c :=
  (dats m 0 c).arrAt_eq_of_cover 8 (rows m c) (flushed_eq m c) fun i =>
    ⟨(covered i).choose, flush0_8 _, (covered i).choose_spec⟩

/-- Row of batch entry `b` at position `s`. -/
def rowAt (b : Fin 1024) (s : Fin 200) : Fin 204800 := ⟨b.val * 200 + s.val, by omega⟩

/-- The array that @main returns, entry by entry. -/
theorem result_apply (b : Fin 1024) (s : Fin 200) (d : Fin 256) :
    Pipeline.afterTail₀ cfgs (dats m) 0 (V0 m) [hostOps1] c main_v30 (ix3 b s d) = rowEntry m c (rowAt b s) d := by
  unfold Pipeline.afterTail₀
  generalize hw : Pipeline.withArrays (cfgs 0).spec c (V0 m c) (fun w => (dats m 0 c).arrAt w (cfgs 0).N) = w
  have e : w (Proc.devRef .tc main_v29) = rows m c := by
    rw [← hw]
    exact (Pipeline.withArrays_arr spec0 launch0.win.arr_inj c (V0 m c) _ 8).trans (final m c)
  clear hw
  after_reads_at
  rw [e]
  rfl

end Cert.Array

end
-- ==== Proof.Take.lean ====
/- The rows that the reference takes from the two embedding tables. -/
module

public import proofs.«01_k».proof.Proof.Result
public import proofs.«01_k».proof.Proof.Gen.ReferenceIdeal.Read
public import Idealize.ShloMosaic.Lib.ReduceAll

@[expose] public section

noncomputable section

namespace Cert.Take

open Idealize.ShloMosaic Idealize.ShloMosaic.TcCoe Cert.ReferenceIdeal Cert.ReferenceIdeal.Gen Cert.ReferenceIdeal.Read

/-- The dimension numbers that read whole rows of a table of `N` rows, one row per entry of the batch and place. -/
abbrev rowDims (N : Nat) (wf : GatherDims.WF ⟨2, ![N, 256]⟩ S1024x200x1 S1024x200x256 [2] [0] [] [0] [] 2 ![1, 256]) :
    GatherDims ⟨2, ![N, 256]⟩ S1024x200x1 S1024x200x256 where
  offsetDims := [2]
  collapsedSliceDims := [0]
  operandBatchingDims := []
  startIndicesBatchingDims := []
  startIndexMap := [0]
  indexVectorDim := 2
  sliceSizes := ![1, 256]
  wf := wf

/-- Where the start of a row's read names row `k` of the table, the read gives row `k`. -/
theorem row_read {N : Nat} (wf : GatherDims.WF ⟨2, ![N, 256]⟩ S1024x200x1 S1024x200x256 [2] [0] [] [0] [] 2 ![1, 256])
    (x : (⟨2, ![N, 256]⟩ : Shape).Idx → EReal) (idx : IVec S1024x200x1 32) (b : Fin 1024) (s : Fin 200) (d : Fin 256)
    (k : Fin N) (hk : min (idx (ix3 b s 0)).toInt.toNat (N - 1) = k.val) :
    Host.gather (rowDims N wf) x idx (ix3 b s d) = x (ix2 k d) := by
  unfold Host.gather
  refine congrArg x ?_
  funext a
  refine Fin.ext ?_
  show (rowDims N wf).start (ix3 b s d) idx a + (rowDims N wf).batchCoord (ix3 b s d) a
      + (rowDims N wf).offCoord (ix3 b s d) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 b s d) ⟨List.idxOf (0 : Fin 2) (rowDims N wf).startIndexMap,
        List.idxOf_lt_length_iff.2 (List.mem_singleton.mpr rfl)⟩ = ix3 b s 0 := by
      funext e; refine Fin.ext ?_
      match e with
      | ⟨0, _⟩ => rfl
      | ⟨1, _⟩ => rfl
      | ⟨2, _⟩ => rfl
    rw [hsi]
    exact hk
  · unfold GatherDims.start
    rw [dif_neg (show (1 : Fin 2) ∉ (rowDims N wf).startIndexMap from (by decide : (1 : Fin 2) ∉ [(0 : Fin 2)]))]
    simp only [Nat.zero_add]
    unfold GatherDims.offCoord
    rw [dif_pos ((GatherDims.mem_sKept _ _).mpr ⟨(by decide : (1 : Fin 2) ∉ [(0 : Fin 2)]), List.not_mem_nil⟩)]
    rfl

variable (x1 x2 : S1024x200.Idx → BitVec 32) (x4 : S2x256.Idx → EReal) (x5 : S4x256.Idx → EReal)

/-- An actor's index is not negative and so is not moved. -/
theorem actor_start (A : S1024x200.Idx → Fin 2) (hA : ∀ i, x1 i = BitVec.ofNat 32 (A i).val) (i : S1024x200.Idx) :
    val_main_call0_v4 (F := Ideal) x1 i = BitVec.ofNat 32 (A i).val := by
  rw [val_main_call0_v4_apply, val_main_call0_v3_apply, val_main_call0_v1_apply, val_main_call0_v2_apply,
    val_main_call0_v0_apply, val_main_call0_c_apply, val_main_call0_c_0_apply, hA i]
  generalize A i = a
  revert a
  decide

/-- A street's index is not negative and so is not moved. -/
theorem street_start (S : S1024x200.Idx → Fin 4) (hS : ∀ i, x2 i = BitVec.ofNat 32 (S i).val) (i : S1024x200.Idx) :
    val_main_call1_v4 (F := Ideal) x2 i = BitVec.ofNat 32 (S i).val := by
  rw [val_main_call1_v4_apply, val_main_call1_v3_apply, val_main_call1_v1_apply, val_main_call1_v2_apply,
    val_main_call1_v0_apply, val_main_call1_c_apply, val_main_call1_c_0_apply, hS i]
  generalize S i = a
  revert a
  decide

/-- Every actor's index names a row of the table. -/
theorem actor_inside (A : S1024x200.Idx → Fin 2) (hA : ∀ i, x1 i = BitVec.ofNat 32 (A i).val) (i : S1024x200.Idx) :
    val_main_call0_v12 (F := Ideal) x1 i = 1#1 := by
  unfold val_main_call0_v12
  refine Host.reduce_andi_one _ _ _ _ _ rfl fun j => ?_
  rw [val_main_call0_v11_apply, val_main_call0_v7_apply, val_main_call0_v10_apply, val_main_call0_v5_apply,
    actor_start x1 A hA, val_main_call0_v6_apply, val_main_call0_v9_apply, val_main_call0_v8_apply,
    val_main_call0_c_1_apply, val_main_call0_c_2_apply]
  generalize A _ = a
  revert a
  decide

/-- Every street's index names a row of the table. -/
theorem street_inside (S : S1024x200.Idx → Fin 4) (hS : ∀ i, x2 i = BitVec.ofNat 32 (S i).val) (i : S1024x200.Idx) :
    val_main_call1_v12 (F := Ideal) x2 i = 1#1 := by
  unfold val_main_call1_v12
  refine Host.reduce_andi_one _ _ _ _ _ rfl fun j => ?_
  rw [val_main_call1_v11_apply, val_main_call1_v7_apply, val_main_call1_v10_apply, val_main_call1_v5_apply,
    street_start x2 S hS, val_main_call1_v6_apply, val_main_call1_v9_apply, val_main_call1_v8_apply,
    val_main_call1_c_1_apply, val_main_call1_c_2_apply]
  generalize S _ = a
  revert a
  decide

/-- The row taken from the actors' table is the row that the index names. -/
theorem actor_row (A : S1024x200.Idx → Fin 2) (hA : ∀ i, x1 i = BitVec.ofNat 32 (A i).val)
    (b : Fin 1024) (s : Fin 200) (d : Fin 256) :
    val_main_v2 (F := Ideal) x1 x4 (ix3 b s d) = x4 (ix2 (A (ix2 b s)) d) := by
  rw [val_main_v2_apply, val_main_call0_v14_apply, actor_inside x1 A hA]
  refine row_read (N := 2) _ x4 _ b s d (A (ix2 b s)) ?_
  rw [val_main_call0_v5_apply, actor_start x1 A hA, show idx_main_call0_v5 (ix3 b s 0) = ix2 b s from by
    funext a; fin_cases a <;> rfl]
  generalize A _ = a
  revert a
  decide

/-- The row taken from the streets' table is the row that the index names. -/
theorem street_row (S : S1024x200.Idx → Fin 4) (hS : ∀ i, x2 i = BitVec.ofNat 32 (S i).val)
    (b : Fin 1024) (s : Fin 200) (d : Fin 256) :
    val_main_v3 (F := Ideal) x2 x5 (ix3 b s d) = x5 (ix2 (S (ix2 b s)) d) := by
  rw [val_main_v3_apply, val_main_call1_v14_apply, street_inside x2 S hS]
  refine row_read (N := 4) _ x5 _ b s d (S (ix2 b s)) ?_
  rw [val_main_call1_v5_apply, street_start x2 S hS, show idx_main_call1_v5 (ix3 b s 0) = ix2 b s from by
    funext a; fin_cases a <;> rfl]
  generalize S _ = a
  revert a
  decide

end Cert.Take

end
-- ==== Proof.Ref.lean ====
/- What the reference computes, entry by entry. -/
module

public import proofs.«01_k».proof.Proof.Take

@[expose] public section

noncomputable section

namespace Cert.Ref

open Idealize.ShloMosaic Idealize.ShloMosaic.TcCoe Cert.ReferenceIdeal Cert.ReferenceIdeal.Gen Cert.ReferenceIdeal.Read
open Cert.Consts Cert.Norm
open Cert.Array (hidden)

/-- An index of the batch, the place and the feature is known by its three coordinates. -/
theorem ix3_of (i : S1024x200x256.Idx) (b : Fin 1024) (s : Fin 200) (d : Fin 256)
    (h : i 0 = b ∧ i 1 = s ∧ i 2 = d) : i = ix3 b s d := by
  obtain ⟨rfl, rfl, rfl⟩ := h
  funext a; fin_cases a <;> rfl

/-- An index of a row is known by its first two coordinates. -/
theorem ix3_of' (i : S1024x200x1.Idx) (b : Fin 1024) (s : Fin 200) (h : i 0 = b ∧ i 1 = s) : i = ix3 b s 0 := by
  obtain ⟨rfl, rfl⟩ := h
  funext a
  fin_cases a
  · rfl
  · rfl
  · exact Subsingleton.elim (α := Fin 1) _ _

/-- An index of the batch and the place is known by its two coordinates. -/
theorem ix2_of (i : S1024x200.Idx) (b : Fin 1024) (s : Fin 200) (h : i 0 = b ∧ i 1 = s) : i = ix2 b s := by
  obtain ⟨rfl, rfl⟩ := h
  funext a; fin_cases a <;> rfl

section Layer

variable (x3 : S1024x200x16.Idx → EReal) (x7 : S16x256.Idx → EReal) (x8 x9 x10 : S256.Idx → EReal)
  (b : Fin 1024) (s : Fin 200)

/-- The row of the hidden layer at a batch entry and a place. -/
abbrev row : Fin 256 → EReal := hidden (fun k => x3 (ix3 b s k)) (fun k d => x7 (ix2 k d)) (fun d => x8 (ix1 d))

/-- The hidden layer before normalisation. -/
theorem hidden_at (d : Fin 256) : val_main_v8 (F := Ideal) x3 x7 x8 (ix3 b s d) = row x3 x7 x8 b s d := by
  rw [val_main_v8_apply, val_main_v5_apply, val_main_v7_apply, val_main_v6_apply]
  show _ + _ = Finset.sum _ _ + _
  refine congrArg₂ (· + ·) (Finset.sum_congr rfl fun k _ => congrArg₂ (· * ·) (congrArg x3 ?_) (congrArg x7 ?_)) (congrArg x8 ?_)
  · funext a; fin_cases a <;> rfl
  · funext a; fin_cases a <;> rfl
  · funext a; fin_cases a; rfl

/-- The mean of a row. -/
theorem mean_at : val_main_v12 (F := Ideal) x3 x7 x8 (ix3 b s 0)
    = Ideal.div (∑ k, row x3 x7 x8 b s k) ((256 : ℝ) : EReal) := by
  rw [val_main_v12_apply, val_main_v10_apply, val_main_v9_apply, val_main_v11_apply, val_main_cst_0_apply,
    val_main_cst_apply]
  refine congrArg₂ Ideal.div ?_ word_256
  refine (congrArg₂ (· + ·) word_zero (Finset.sum_congr rfl fun k _ => ?_)).trans (zero_add _)
  rw [ix3_of (idx_main_v9 _ k) b s k ⟨rfl, rfl, rfl⟩, hidden_at]

/-- A row's distance from its mean. -/
theorem centred_at (d : Fin 256) : val_main_v14 (F := Ideal) x3 x7 x8 (ix3 b s d)
    = row x3 x7 x8 b s d - Ideal.div (∑ k, row x3 x7 x8 b s k) ((256 : ℝ) : EReal) := by
  rw [val_main_v14_apply, val_main_v13_apply, ix3_of' (idx_main_v13 _) b s ⟨rfl, rfl⟩, mean_at, hidden_at]
  rfl

/-- The root of a row's variance, kept off zero. -/
theorem spread_at : val_main_v24 (F := Ideal) x3 x7 x8 (ix3 b s 0)
    = Ideal.sqrt (Ideal.div (∑ k,
        (row x3 x7 x8 b s k - Ideal.div (∑ k, row x3 x7 x8 b s k) ((256 : ℝ) : EReal))
        * (row x3 x7 x8 b s k - Ideal.div (∑ k, row x3 x7 x8 b s k) ((256 : ℝ) : EReal))) ((256 : ℝ) : EReal)
      + (eps : EReal)) := by
  rw [val_main_v24_apply, val_main_v23_apply, val_main_v19_apply, val_main_v17_apply, val_main_v16_apply,
    val_main_v18_apply, val_main_v22_apply, val_main_cst_1_apply, val_main_cst_2_apply, val_main_cst_3_apply]
  refine congrArg Ideal.sqrt (congrArg₂ (· + ·) (congrArg₂ Ideal.div ?_ word_256) word_eps)
  refine (congrArg₂ (· + ·) word_zero (Finset.sum_congr rfl fun k _ => ?_)).trans (zero_add _)
  rw [ix3_of (idx_main_v16 _ k) b s k ⟨rfl, rfl, rfl⟩, val_main_v15_apply, centred_at]
  rfl

/-- The normalised row. -/
theorem normal_at (d : Fin 256) : val_main_v26 (F := Ideal) x3 x7 x8 (ix3 b s d) = twoPass (row x3 x7 x8 b s) d := by
  rw [val_main_v26_apply, val_main_v21_apply, val_main_v20_apply, val_main_v25_apply,
    ix3_of' (idx_main_v20 _) b s ⟨rfl, rfl⟩, ix3_of' (idx_main_v25 _) b s ⟨rfl, rfl⟩, mean_at, hidden_at, spread_at]
  rfl

/-- The hidden layer: scaled, shifted and cut at zero. -/
theorem relu_at (d : Fin 256) : val_main_v33 (F := Ideal) x3 x7 x8 x9 x10 (ix3 b s d)
    = max (twoPass (row x3 x7 x8 b s) d * x9 (ix1 d) + x10 (ix1 d)) 0 := by
  rw [val_main_v33_apply, val_main_v32_apply, val_main_v29_apply, val_main_v28_apply, val_main_v27_apply,
    val_main_v31_apply, val_main_v30_apply, val_main_call2_v0_apply, val_main_call2_cst_apply, normal_at]
  refine congrArg₂ max (congrArg₂ (· + ·) (congrArg₂ (· * ·) rfl (congrArg x9 ?_)) (congrArg x10 ?_)) word_zero
  · funext a; fin_cases a; rfl
  · funext a; fin_cases a; rfl

end Layer

/-- One where the token is an action, zero elsewhere. -/
def present (t : BitVec 32) : EReal := FloatOps.uitofp (F := Ideal) .f32 (IntOp.cmpi .sge t 0#32)

/-- One entry of the reference's result from the data of its row. -/
def refEntry (t : BitVec 32) (a : Fin 2) (st : Fin 4) (lm : Fin 16 → EReal) (W : Fin 16 → Fin 256 → EReal)
    (b : Fin 256 → EReal) (aW : Fin 2 → EReal) (sW : Fin 4 → EReal) (g β pos : EReal) (d : Fin 256) : EReal :=
  (aW a + sW st + pos + max (twoPass (hidden lm W b) d * g + β) 0) * present t

/-- The reference's result, where the actors' indices are `A` and the streets' are `S`. -/
theorem result_at (x0 x1 x2 : S1024x200.Idx → BitVec 32) (x3 : S1024x200x16.Idx → EReal) (x4 : S2x256.Idx → EReal)
    (x5 : S4x256.Idx → EReal) (x6 : S200x256.Idx → EReal) (x7 : S16x256.Idx → EReal) (x8 x9 x10 : S256.Idx → EReal)
    (A : S1024x200.Idx → Fin 2) (hA : ∀ i, x1 i = BitVec.ofNat 32 (A i).val)
    (S : S1024x200.Idx → Fin 4) (hS : ∀ i, x2 i = BitVec.ofNat 32 (S i).val)
    (b : Fin 1024) (s : Fin 200) (d : Fin 256) :
    val_main_v41 (F := Ideal) x0 x1 x2 x3 x4 x5 x6 x7 x8 x9 x10 (ix3 b s d)
      = refEntry (x0 (ix2 b s)) (A (ix2 b s)) (S (ix2 b s)) (fun k => x3 (ix3 b s k)) (fun k d => x7 (ix2 k d))
          (fun d => x8 (ix1 d)) (fun i => x4 (ix2 i d)) (fun i => x5 (ix2 i d)) (x9 (ix1 d)) (x10 (ix1 d))
          (x6 (ix2 s d)) d := by
  rw [val_main_v41_apply, val_main_v37_apply, val_main_v36_apply, val_main_v34_apply, val_main_v35_apply,
    val_main_v4_apply, val_main_v40_apply, val_main_v39_apply, val_main_v38_apply, val_main_v1_apply, val_main_v0_apply,
    val_main_c_apply, relu_at, Take.actor_row x1 x4 A hA, Take.street_row x2 x5 S hS,
    ix2_of (idx_main_v38 _) b s ⟨rfl, rfl⟩, show idx_main_v4 (idx_main_v35 (ix3 b s d)) = ix2 s d from by
      funext a; fin_cases a <;> rfl]
  rfl

end Cert.Ref

end
-- ==== Proof.Equation.lean ====
/- The equation between an entry of the kernel's result and an entry of the reference's. -/
module

public import proofs.«01_k».proof.Proof.Ref

@[expose] public section

noncomputable section

namespace Cert.Equation

open Idealize.ShloMosaic Cert.Norm Cert.Block Cert.Host Cert.Array Cert.Ref

/-- The code of a row: eight if its bit is set, four per actor, one per street. -/
def code (p : BitVec 1) (a : Fin 2) (st : Fin 4) : Fin 16 :=
  ⟨p.toNat * 8 + a.val * 4 + st.val, by have := p.isLt; omega⟩

/-- The word of a row's code is its code. -/
theorem code_word (t : BitVec 32) (a : Fin 2) (st : Fin 4) :
    codeWord t (BitVec.ofNat 32 a.val) (BitVec.ofNat 32 st.val)
      = BitVec.ofNat 32 (code (IntOp.cmpi .sge t 0#32) a st).val := by
  unfold codeWord
  generalize IntOp.cmpi .sge t 0#32 = p
  obtain rfl | rfl := BitVec.eq_zero_or_eq_one p
  · revert a st; decide
  · revert a st; decide

/-- A code picks its own entry of the table. -/
theorem pick_code (k : Fin 16) (T : Fin 16 → EReal) : pick ((k.val : ℝ) : EReal) T = T k := by
  unfold pick
  rw [Finset.sum_eq_single k]
  · rw [if_pos rfl, one_mul]
  · intro j _ hj
    rw [if_neg, zero_mul]
    intro h
    exact hj (Fin.ext (Nat.cast_injective (R := ℝ) (EReal.coe_injective h))).symm
  · exact fun h => absurd (Finset.mem_univ _) h

/-- A code's flag is set from eight on. -/
theorem flag_code (k : Fin 16) : flagOf ((k.val : ℝ) : EReal) = if 8 ≤ k.val then 1 else 0 := by
  unfold flagOf
  refine if_congr ?_ rfl rfl
  rw [EReal.coe_le_coe_iff]
  exact_mod_cast Iff.rfl

/-- On a set bit the table holds the sum of the two embeddings. -/
theorem table_set (aW : Fin 2 → EReal) (sW : Fin 4 → EReal) (a : Fin 2) (st : Fin 4) :
    table aW sW (code 1#1 a st) = aW a + sW st := by
  fin_cases a <;> fin_cases st <;> rfl

/-- On a clear bit the table holds zero. -/
theorem table_clear (aW : Fin 2 → EReal) (sW : Fin 4 → EReal) (a : Fin 2) (st : Fin 4) :
    table aW sW (code 0#1 a st) = 0 := by
  fin_cases a <;> fin_cases st <;> rfl

/-- A row's factor is one where its bit is set. -/
theorem bit_set : FloatOps.uitofp (F := Ideal) .f32 1#1 = (1 : EReal) := by
  show (((1#1 : BitVec 1).toNat : ℝ) : EReal) = 1
  simp

/-- A row's factor is zero where its bit is clear. -/
theorem bit_clear : FloatOps.uitofp (F := Ideal) .f32 0#1 = (0 : EReal) := by
  show (((0#1 : BitVec 1).toNat : ℝ) : EReal) = 0
  simp

section Reals

variable (l : Fin 16 → ℝ) (w : Fin 16 → Fin 256 → ℝ) (v : Fin 256 → ℝ)

/-- The hidden layer of real inputs is real. -/
theorem hidden_real (d : Fin 256) :
    hidden (fun k => (l k : EReal)) (fun k d => (w k d : EReal)) (fun d => (v d : EReal)) d
      = ((∑ k, l k * w k d + v d : ℝ) : EReal) := by
  unfold Cert.Array.hidden
  simp only [← EReal.coe_mul]
  rw [coe_sum fun k => l k * w k d, ← EReal.coe_add]

/-- On real inputs what the kernel takes for a row's sum is the row's sum. -/
theorem hiddenSum_real :
    hiddenSum (fun k => (l k : EReal)) (fun k d => (w k d : EReal)) (fun d => (v d : EReal))
      = ((∑ d, (∑ k, l k * w k d + v d) : ℝ) : EReal) := by
  unfold hiddenSum
  simp only [coe_sum, ← EReal.coe_mul, ← EReal.coe_add]
  refine congrArg _ ?_
  rw [Finset.sum_add_distrib, Finset.sum_comm]
  simp only [Finset.mul_sum]

/-- On real inputs the kernel's normalised row is the reference's. -/
theorem norm_real (d : Fin 256) :
    let h := hidden (fun k => (l k : EReal)) (fun k d => (w k d : EReal)) (fun d => (v d : EReal))
    onePass (h d) (hiddenSum (fun k => (l k : EReal)) (fun k d => (w k d : EReal)) (fun d => (v d : EReal)))
      (∑ k, h k * h k) = twoPass h d := by
  intro h
  have hh : h = fun d => ((∑ k, l k * w k d + v d : ℝ) : EReal) := funext (hidden_real l w v)
  rw [hh, hiddenSum_real]
  simp only [← EReal.coe_mul]
  rw [coe_sum fun d => (∑ k, l k * w k d + v d) * (∑ k, l k * w k d + v d)]
  exact onePass_eq_twoPass (fun d => ∑ k, l k * w k d + v d) d

end Reals

/-- THE EQUATION: with the masks, the weights and the bias real, an entry of the kernel's result is the entry of the
    reference's. -/
theorem entry_eq (t : BitVec 32) (a : Fin 2) (st : Fin 4) (lm : Fin 16 → EReal) (W : Fin 16 → Fin 256 → EReal)
    (b : Fin 256 → EReal) (aW : Fin 2 → EReal) (sW : Fin 4 → EReal) (g β pos : EReal) (d : Fin 256)
    (hl : ∀ k, ∃ r : ℝ, lm k = r) (hW : ∀ k d, ∃ r : ℝ, W k d = r) (hb : ∀ d, ∃ r : ℝ, b d = r) :
    entry t (BitVec.ofNat 32 a.val) (BitVec.ofNat 32 st.val) lm W b aW sW g β pos d
      = refEntry t a st lm W b aW sW g β pos d := by
  choose l hl using hl
  choose w hW using hW
  choose v hb using hb
  obtain rfl : lm = fun k => (l k : EReal) := funext hl
  obtain rfl : W = fun k d => (w k d : EReal) := funext fun k => funext (hW k)
  obtain rfl : b = fun d => (v d : EReal) := funext hb
  unfold entry refEntry rowOut present
  rw [norm_real l w v d, code_word, sitofp_nat, pick_code, flag_code]
  generalize max _ (0 : EReal) = x
  generalize IntOp.cmpi .sge t 0#32 = p
  obtain rfl | rfl := BitVec.eq_zero_or_eq_one p
  · rw [table_clear, bit_clear, if_neg (by revert a st; decide)]
    simp
  · rw [table_set, bit_set, if_pos (by revert a st; decide)]
    simp only [mul_one]
    rw [add_assoc, add_comm]

end Cert.Equation

end
-- ==== Proof.Range.lean ====
/- What the precondition says of the elements of the arguments. -/
module

public import proofs.«01_k».proof.Proof.Equation
public import proofs.«01_k».proof.Defs
public import Idealize.ShloMosaic.Lib.WordCmp

@[expose] public section

noncomputable section

namespace Cert.Range

open Idealize.ShloMosaic Idealize.ShloMosaic.TcCoe Cert.KernelIdeal

/-- The shape relations that the precondition's operations need. -/
theorem facts : Cert.Pre_in_range.Facts := by
  constructor <;> decide

/-- A word that is not negative and below a small bound is one of the indices below the bound. -/
theorem index_of (n : Nat) (hn : n ≤ 4) (x : BitVec 32) (h0 : IntOp.cmpi .sge x 0#32 = 1#1)
    (h1 : IntOp.cmpi .slt x (BitVec.ofNat 32 n) = 1#1) : ∃ a : Fin n, x = BitVec.ofNat 32 a.val := by
  have e0 : (0#32 : BitVec 32).sle x = true := by
    cases h : (0#32 : BitVec 32).sle x
    · simp [IntOp.cmpi, h] at h0
    · rfl
  have e1 : x.slt (BitVec.ofNat 32 n) = true := by
    cases h : x.slt (BitVec.ofNat 32 n)
    · simp [IntOp.cmpi, h] at h1
    · rfl
  rw [BitVec.sle_iff_toInt_le] at e0
  rw [BitVec.slt_iff_toInt_lt, WordCmp.toInt_ofNat_of_lt (w := 32) (by omega)] at e1
  have hx : x.toNat < n := by
    have := BitVec.toInt_eq_toNat_cond x
    have := x.isLt
    simp only [BitVec.toInt_zero] at e0
    omega
  exact ⟨⟨x.toNat, hx⟩, by simp⟩

/-- An element whose absolute value is below infinity is real. -/
theorem real_of (x : EReal)
    (h : FloatOps.cmpf (F := Ideal) (φ := .f32) .olt (FloatOps.absf (F := Ideal) (φ := .f32) x) (FloatOps.ofBits (F := Ideal) .f32 0x7F800000#32) = 1#1) :
    ∃ r : ℝ, x = r := by
  refine Cert.Norm.exists_real ?_
  have h' : BitVec.ofBool (decide (max x (-x) < Ideal.ofBits .f32 0x7F800000#32)) = 1#1 := h
  rw [Cert.Consts.word_inf] at h'
  by_contra hc
  rw [decide_eq_false hc] at h'
  exact absurd h' (by decide)

variable [hP : Cert.Pre_in_range.Facts] (m : (ℓ : Loc nD τ sig) → Buf (Elt Ideal) ℓ)

/-- Under the precondition every actor's index is below two. -/
theorem actors (h : Cert.Pre_KernelIdeal_in_range m) (c : Dev nD) (i : S1024x200.Idx) :
    ∃ a : Fin 2, m ((c.tc : Thread nD τ).loc main_arg1) i = BitVec.ofNat 32 a.val :=
  index_of 2 (by norm_num) _ (congrFun (h c).1 i) (congrFun (h c).2.1 i)

/-- Under the precondition every street's index is below four. -/
theorem streets (h : Cert.Pre_KernelIdeal_in_range m) (c : Dev nD) (i : S1024x200.Idx) :
    ∃ a : Fin 4, m ((c.tc : Thread nD τ).loc main_arg2) i = BitVec.ofNat 32 a.val :=
  index_of 4 (by norm_num) _ (congrFun (h c).2.2.1 i) (congrFun (h c).2.2.2.1 i)

/-- Under the precondition the masks are real. -/
theorem masks (h : Cert.Pre_KernelIdeal_in_range m) (c : Dev nD) (i : S1024x200x16.Idx) :
    ∃ r : ℝ, m ((c.tc : Thread nD τ).loc main_arg3) i = (r : EReal) :=
  real_of _ (congrFun (h c).2.2.2.2.1 i)

/-- Under the precondition the weights are real. -/
theorem weights (h : Cert.Pre_KernelIdeal_in_range m) (c : Dev nD) (i : S16x256.Idx) :
    ∃ r : ℝ, m ((c.tc : Thread nD τ).loc main_arg7) i = (r : EReal) :=
  real_of _ (congrFun (h c).2.2.2.2.2.1 i)

/-- Under the precondition the bias is real. -/
theorem bias (h : Cert.Pre_KernelIdeal_in_range m) (c : Dev nD) (i : S256.Idx) :
    ∃ r : ℝ, m ((c.tc : Thread nD τ).loc main_arg8) i = (r : EReal) :=
  real_of _ (congrFun (h c).2.2.2.2.2.2 i)

end Cert.Range

end
-- ==== Proof.Agree.lean ====
/- The kernel and the reference return the same array. -/
module

public import proofs.«01_k».proof.Proof.Range

@[expose] public section

noncomputable section

namespace Cert.Agree

open Idealize.ShloMosaic Idealize.ShloMosaic.TcCoe Idealize.SL.Sem

/-- The row of a batch entry and a place belongs to that batch entry. -/
theorem batch_row (b : Fin 1024) (s : Fin 200) : Host.batch (Array.rowAt b s) = b := by
  refine Fin.ext ?_
  show (b.val * 200 + s.val) / 200 = b.val
  omega

/-- The row of a batch entry and a place has that place. -/
theorem place_row (b : Fin 1024) (s : Fin 200) : Host.place (Array.rowAt b s) = s := by
  refine Fin.ext ?_
  show (b.val * 200 + s.val) % 200 = s.val
  omega

variable [hP : Cert.Pre_in_range.Facts]
  (m : (ℓ : Loc Cert.KernelIdeal.nD Cert.KernelIdeal.τ Cert.KernelIdeal.sig) → Buf (Elt Ideal) ℓ)
  (c : Dev Cert.KernelIdeal.nD)

/-- Under the precondition the reference's value of the kernel's arguments is the array that the kernel returns. -/
theorem value_eq (h : Cert.Pre_KernelIdeal_in_range m) :
    Cert.ReferenceIdeal.Read.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
    = Pipeline.afterTail₀ Cert.KernelIdeal.cfgs (Cert.KernelIdeal.Gen.dats m) 0 (Cert.KernelIdeal.Gen.V0 m)
        [Cert.KernelIdeal.Gen.hostOps1] c Cert.KernelIdeal.main_v30 := by
  choose A hA using Range.actors m h c
  choose S hS using Range.streets m h c
  funext i
  obtain ⟨b, s, d, rfl⟩ : ∃ (b : Fin 1024) (s : Fin 200) (d : Fin 256), i = ix3 b s d :=
    ⟨i 0, i 1, i 2, Ref.ix3_of i _ _ _ ⟨rfl, rfl, rfl⟩⟩
  refine (Ref.result_at _ _ _ _ _ _ _ _ _ _ _ A hA S hS b s d).trans ?_
  refine Eq.trans ?_ (Array.result_apply m c b s d).symm
  unfold Array.rowEntry
  rw [batch_row, place_row]
  refine ((congrArg₂ (fun x y => Array.entry _ x y _ _ _ _ _ _ _ _ _) (hA _) (hS _)).trans ?_).symm
  exact Equation.entry_eq _ _ _ _ _ _ _ _ _ _ _ _ (fun k => Range.masks m h c _) (fun k d => Range.weights m h c _)
    (fun d => Range.bias m h c _)

end Cert.Agree

end
-- ==== Proof.lean ====
/- The claim: the kernel, its idealised form and the reference run and leave their arguments as they were, and the
   idealised kernel returns the reference's array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were, and uses no semaphore. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Under the precondition the kernel and the reference, run from the same arguments, end with the same array and
    leave their arguments as they were. -/
theorem equal_results [hP : Cert.Pre_in_range.Facts] : Cert.algebraic_KernelIdeal_ReferenceIdeal_pre_in_range := by
  intro m g m' g' hpre hagree
  refine ⟨fun c => Pipeline.afterTail₀ Cert.KernelIdeal.cfgs (Cert.KernelIdeal.Gen.dats m) 0 (Cert.KernelIdeal.Gen.V0 m)
        [Cert.KernelIdeal.Gen.hostOps1] c Cert.KernelIdeal.main_v30, ?_, ?_⟩
  · exact (θ_run Cert.KernelIdeal.defs _ _).mono
      (fun r h c => ⟨((h.1 c).2 Cert.KernelIdeal.main_v30 (Pipeline.mem_restRefs_of Cert.KernelIdeal.main_v30 (by decide) (by decide))), h.2 c⟩)
      (θ_run_and (Cert.KernelIdeal.Gen.run_main m g) (Cert.KernelIdeal.Gen.unchanged m g))
  · refine (θ_run Cert.ReferenceIdeal.defs _ _).mono (fun r h c => ⟨?_, (h c).2⟩)
      (Cert.ReferenceIdeal.Value.run (F := Ideal) m' g')
    refine (h c).1.trans ?_
    obtain ⟨h0, h1, h2, h3, h4, h5, h6, h7, h8, h9, h10⟩ := hagree c
    rw [Cert.ReferenceIdeal.Read.val_main_v41_eq, h0, h1, h2, h3, h4, h5, h6, h7, h8, h9, h10]
    exact Agree.value_eq m c hpre

/-- Every claim of the certificate. -/
theorem claim : Cert.Claim :=
  ⟨Cert.Kernel.Gen.facts, Cert.KernelIdeal.Gen.facts, Cert.ReferenceIdeal.Gen.facts, Range.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    equal_results (hP := Range.facts)⟩

end Cert.Proof

end
